-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 2
  | .smem => 0
  | _ => 0

abbrev bufTy : (tb : Table) → Fin (tcTables nBuf tb) → BufTy
  | .hbm, ⟨0, _⟩ => ⟨S256x256, .f32⟩
  | .hbm, ⟨1, _⟩ => ⟨S512x256, .f32⟩
  | .local _ .vmem, ⟨0, _⟩ => ⟨S256x256, .f32⟩
  | .local _ .vmem, ⟨1, _⟩ => ⟨S512x256, .f32⟩
  | _, _ => ⟨S256x256, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_4 : BitVec 32 := 8#32
  let v11 : BitVec 32 := Scalar.muli v9 c8_i32_4
  let v12 : BitVec 32 := Scalar.addi c0_i32 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32 : BitVec 32 := 256#32
  let v17 : BitVec 32 := Scalar.muli v2 c256_i32
  let c0_i32_12 : BitVec 32 := 0#32
  ![v17.toNat, 0]
def k0_dev2 (d0 : Dev nD) : Nat :=
  let c0_i32_9 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_8 : BitVec 32 := 8#32
  let v18 : BitVec 32 := Scalar.muli v9 c8_i32_8
  let v19 : BitVec 32 := Scalar.addi c0_i32_9 v18
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_10 : BitVec 32 := 4#32
  let v20 : BitVec 32 := Scalar.muli v5 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat
def k0_off2 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c256_i32_14 : BitVec 32 := 256#32
  let v27 : BitVec 32 := Scalar.muli v2 c256_i32_14
  let v28 : Index := Scalar.indexCast v27
  let c0_15 : Index := 0#32
  ![v28.toNat, 0]
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩

abbrev nBuf : Space → Nat
  | .hbm => 1
  | .vmem => 0
  | .smem => 0
  | _ => 0

abbrev bufTy : (tb : Table) → Fin (tcTables nBuf tb) → BufTy
  | .hbm, ⟨0, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdealPlan.lean ====
/-
# The exchange between a device and its partner

The mesh is 2 × 2 × 4 and the kernel gathers along its first axis: every device holds 256 rows of the array, its
partner is the device whose first coordinate differs, and the two end with both row bands. On each device the kernel

  1. signals the partner's barrier semaphore once and waits for one unit on its own,
  2. starts a remote copy of its rows into the band of the partner's result buffer those rows belong to,
  3. stores its rows into the same band of its own result buffer, while the copy is in flight,
  4. waits for its own copy to have left and for the partner's to have landed.

This module says who may touch what. A device's barrier semaphore, its send semaphore and its receive semaphore each
complete one round with one duty; the signal on the barrier hands over the band of the partner's result buffer that the
copy will fill, the send semaphore gives back the half share of the source the copy reads, and the receive
semaphore gives the other band, filled.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Tactic

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two round libraries side by side: the pipeline's own and the exchange's. -/
abbrev Ghost : Type := UR sig nD τ × UR sig nD τ

local notation "𝕄" => MT nD τ sig Unit (Elt F) ℕ Ghost ℕ

/-- The pipeline's half of the ghost state. -/
abbrev pipeE : Emb (UR sig nD τ) (MT nD τ sig Unit (Elt F) ℕ Ghost ℕ) := embL
/-- The exchange's half. -/
abbrev swapE : Emb (UR sig nD τ) (MT nD τ sig Unit (Elt F) ℕ Ghost ℕ) := embR

/-! ## Partners -/

/-- The device whose first mesh coordinate differs. -/
def mate (c : Dev nD) : Dev nD := ⟨(c.val + 8) % 16, Nat.mod_lt _ (by decide)⟩

/-- The partner is eight devices on, around the sixteen. -/
theorem mate_val (c : Dev nD) : (mate c).val = (c.val + 8) % 16 := rfl

/-- The partner's partner is the device itself. -/
theorem mate_mate (c : Dev nD) : mate (mate c) = c := by
  have hc : c.val < 16 := c.isLt
  apply Fin.ext; simp only [mate_val]; omega

/-- Partners are exchanged by one permutation of the mesh. -/
def mates : Dev nD ≃ Dev nD := ⟨mate, mate, mate_mate, mate_mate⟩

/-- The signal is addressed to the partner, -/
theorem signal_to (c : Dev nD) : (⟨k0_dev1 c, k0_dev1_lt c⟩ : Dev nD) = mate c := by
  have hc : c.val < 16 := c.isLt
  apply Fin.ext; show k0_dev1 c = _; rw [k0_dev1_eq, mate_val]; omega

/-- and so is the copy. -/
theorem copy_to (c : Dev nD) : (⟨k0_dev2 c, k0_dev2_lt c⟩ : Dev nD) = mate c := by
  have hc : c.val < 16 := c.isLt
  apply Fin.ext; show k0_dev2 c = _; rw [k0_dev2_eq, mate_val]; omega

/-! ## Buffers, bands and semaphores -/

/-- The staged rows of the argument. -/
abbrev xM : Memref sig .tc .vmem S256x256 .f32 := Memref.whole cc0_stg0_0
/-- The staged result. -/
abbrev oM : Memref sig .tc .vmem S512x256 .f32 := Memref.whole cc0_stg1_0

/-- The 256 rows of the result that device `b`'s rows of the argument are. -/
abbrev bandRect (b : Dev nD) : Rect S512x256 := Rect.unit (s := S512x256) (k0_off1 b) S256x256.size (k0_off1_inb b)
/-- That band of the staged result. -/
abbrev bandM (b : Dev nD) : Memref sig .tc .vmem S256x256 .f32 := oM.slice (bandRect b) (fun _ => rfl)

/-- The elements of a band are those whose row falls in it. -/
theorem mem_band (b : Dev nD) (i : S512x256.Idx) : i ∈ (bandRect b).set ↔ (i 0).val / 256 = b.val / 8 := by
  have h0 : (i 0).val < 512 := (i 0).isLt
  have h1 : (i 1).val < 256 := (i 1).isLt
  rw [Rect.mem_set_unit, Fin.forall_fin_two, k0_off1_eq]
  show (256 * (b.val / 8) ≤ (i 0).val ∧ (i 0).val < 256 * (b.val / 8) + 256) ∧ (0 ≤ (i 1).val ∧ (i 1).val < 0 + 256) ↔ _
  omega

/-- A band's view names the elements of its rectangle. -/
theorem bandM_set (b : Dev nD) : (bandM b).view.set = (bandRect b).set := View.set_slice_whole cc0_stg1_0 (bandRect b)

/-- A device's band and its partner's are the whole result: what one leaves is the other. -/
theorem band_compl (c : Dev nD) : Finset.univ \ (bandRect c).set = (bandRect (mate c)).set := by
  ext i
  have hc : c.val < 16 := c.isLt
  have h0 : (i 0).val < 512 := (i 0).isLt
  rw [Finset.mem_sdiff, mem_band, mem_band, mate_val]
  simp only [Finset.mem_univ, true_and]
  omega

/-- The barrier semaphore the kernel asks for; it outlives the launch. -/
abbrev barS : Sem sig := (SemArray.scalar (sig.barrier 0 rfl) : Sems sig S_).sem
/-- The semaphore the outgoing copy completes on, -/
abbrev sendS : DmaSems sig S_ := cc0_scratch0
/-- and the one the incoming copy completes on. -/
abbrev recvS : DmaSems sig S_ := cc0_scratch1

/-- The three semaphores of the exchange: barrier, send, receive. -/
abbrev csem : Fin 3 → SemLoc sig := fun | 0 => .reg barS | 1 => .dma sendS.sem | 2 => .dma recvS.sem
/-- Those of them that live for the launch only: send, receive. -/
abbrev osem : Fin 2 → SemLoc sig := fun | 0 => .dma sendS.sem | 1 => .dma recvS.sem
/-- Semaphore `k` of device `c`. -/
abbrev cell (c : Dev nD) (k : Fin 3) : GSem nD τ sig := ((c : Thread nD τ), csem k)

/-- Which of the three a semaphore is. -/
def kindOf (sm : SemLoc sig) : Option (Fin 3) :=
  if sm = .reg barS then some 0 else if sm = .dma sendS.sem then some 1 else if sm = .dma recvS.sem then some 2 else none

/-- The exchange's semaphores are of their own kinds. -/
theorem kindOf_csem (k : Fin 3) : kindOf (csem k) = some k := by fin_cases k <;> decide

/-- The three semaphores are different, -/
theorem csem_inj {k k' : Fin 3} (h : csem k = csem k') : k = k' :=
  Option.some.inj ((kindOf_csem k).symm.trans ((congrArg kindOf h).trans (kindOf_csem k')))

/-- on every device. -/
theorem cell_inj {c c' : Dev nD} {k k' : Fin 3} (h : cell c k = cell c' k') : c = c' ∧ k = k' :=
  ⟨congrArg (fun g : GSem nD τ sig => g.1.1) h, csem_inj (congrArg Prod.snd h)⟩

/-- What a copy of 256 rows credits a semaphore with. -/
abbrev credit : ℕ := (xM : Memref sig .tc .vmem S256x256 .f32).view.dmaCredit
/-- A band's bytes are some. -/
theorem credit_pos : 0 < credit := View.dmaCredit_pos _ (by decide)
/-- It is the same into a band as out of the staged rows. -/
theorem band_credit (b : Dev nD) : (bandM b).view.dmaCredit = credit := rfl
/-- A copy into a band pays the receive semaphore the same credit. -/
theorem band_amount (b : Dev nD) : (bandM b).view.amount (.dma recvS.sem) = credit := band_credit b

/-! ## Contents -/

/-- The device with first coordinate `r / 256` in `c`'s pair: the one that holds row `r`. -/
def holder (c : Dev nD) (r : ℕ) : Dev nD := ⟨8 * (r / 256 % 2) + c.val % 8, by show _ < 16; omega⟩

/-- The array a pair gathers: row `r` from the device that holds it, at its row `r % 256`. -/
def gathered {α : Type} (X : Dev nD → S256x256.Idx → α) (c : Dev nD) : S512x256.Idx → α := fun i =>
  X (holder c (i 0).val) (Shape.pair ⟨(i 0).val % 256, Nat.mod_lt _ (by decide)⟩ (i 1))

/-- Partners gather the same array. -/
theorem gathered_mate {α : Type} (X : Dev nD → S256x256.Idx → α) (c : Dev nD) : gathered X (mate c) = gathered X c := by
  have h : ∀ r, holder (mate c) r = holder c r := fun r => by
    apply Fin.ext; show 8 * (r / 256 % 2) + (mate c).val % 8 = 8 * (r / 256 % 2) + c.val % 8
    rw [mate_val]; omega
  funext i; unfold gathered; rw [h]

/-- In a device's own band the gathered array is the device's rows. -/
theorem gathered_band {α : Type} (X : Dev nD → S256x256.Idx → α) (c : Dev nD) (j : S256x256.Idx) :
    gathered X c ((bandRect c).emb j) = X c j := by
  have hc : c.val < 16 := c.isLt
  have h0 : (j 0).val < 256 := (j 0).isLt
  have e0 : ((bandRect c).emb j 0).val = 256 * (c.val / 8) + (j 0).val := by
    rw [Rect.emb_apply]; show k0_off1 c 0 + 1 * (j 0).val = _; rw [k0_off1_eq, Nat.one_mul]; rfl
  have e1 : ((bandRect c).emb j 1).val = (j 1).val := by
    rw [Rect.emb_apply]; show k0_off1 c 1 + 1 * (j 1).val = _; rw [k0_off1_eq, Nat.one_mul]; exact Nat.zero_add _
  have hh : holder c ((bandRect c).emb j 0).val = c := by
    rw [e0]; apply Fin.ext; show 8 * ((256 * (c.val / 8) + (j 0).val) / 256 % 2) + c.val % 8 = c.val; omega
  have hi : Shape.pair (d := ![256, 256]) ⟨((bandRect c).emb j 0).val % 256, Nat.mod_lt _ (by decide)⟩ ((bandRect c).emb j 1) = j := by
    funext a
    fin_cases a
    · apply Fin.ext; show ((bandRect c).emb j 0).val % 256 = (j 0).val; rw [e0]; omega
    · apply Fin.ext; exact e1
  unfold gathered
  rw [hh]; exact congrArg (X c) hi

variable (m : (ℓ : Loc nD τ sig) → Buf (Elt F) ℓ) (ρ : Dev nD → PrngReg)

/-- The launch state: any contents, every counter zero, any generator registers. -/
def s₀ : MemSt nD τ sig (Elt F) := ⟨m, fun _ => 0, ρ⟩

/-- The rows device `c` starts from, as staged. -/
def rows (c : Dev nD) : (cc0_stg0_0 : Ref sig .tc).ty.Contents (Elt F) :=
  (win0_0.blk (0 : Fin 1)).view.read (Elt F) ((s₀ m ρ).mem ((c : Thread nD τ).loc main_arg0))

/-- What device `c`'s staged result ends holding. -/
def whole (c : Dev nD) : (cc0_stg1_0 : Ref sig .tc).ty.Contents (Elt F) := gathered (rows m ρ) c

omit [FloatOps F] in
/-- Partners gather the same array. -/
theorem whole_mate (c : Dev nD) : whole m ρ (mate c) = whole m ρ c := gathered_mate _ c

omit [FloatOps F] in
/-- Writing device `c`'s rows through any rectangle at its band leaves the gathered array there. -/
theorem write_band (c : Dev nD) (off : Fin S512x256.rank → ℕ) (inb) (h : off = k0_off1 c)
    (f : (cc0_stg1_0 : Ref sig .tc).ty.Contents (Elt F)) (w : S256x256.Idx → Elt F .f32) (hw : w = rows m ρ c) :
    ∀ i ∈ (bandM c).view.set,
      ((oM : Memref sig .tc .vmem S512x256 .f32).access (Rect.unit (s := S512x256) off S256x256.size inb)).write (Elt F) f w Finset.univ i
        = whole m ρ c i := by
  subst h hw
  intro i hi
  obtain ⟨j, -, rfl⟩ := Finset.mem_map.mp hi
  exact (View.write_emb_of_mem (v := (oM : Memref sig .tc .vmem S512x256 .f32).access (bandRect c)) f (rows m ρ c)
    (Finset.mem_univ j)).trans (gathered_band (rows m ρ) c j).symm

/-! ## What is held -/

/-- The band of device `b`'s rows in device `d`'s staged result. -/
def band (b d : Dev nD) (f : (cc0_stg1_0 : Ref sig .tc).ty.Contents (Elt F)) : sProp 𝕄 :=
  (bandM b).view.loc (d : Thread nD τ) ↦[(bandM b).view.set]{fullShare} f

/-- A share of device `c`'s staged rows. -/
def src (c : Dev nD) (q : PosShare TreeShare) : sProp 𝕄 :=
  (xM : Memref sig .tc .vmem S256x256 .f32).view.loc (c : Thread nD τ) ↦[(xM : Memref sig .tc .vmem S256x256 .f32).view.set]{q} rows m ρ c

omit [FloatOps F] in
/-- A band held may be stored in an invariant, -/
instance band_storable (b d : Dev nD) (f) : BI.Storable (upEmb : UEmb _ 𝕄) (band (F := F) b d f) := by unfold band; infer_instance
omit [FloatOps F] in
/-- and so may a share of the staged rows, -/
instance src_storable (c : Dev nD) (q) : BI.Storable (upEmb : UEmb _ 𝕄) (src (F := F) m ρ c q) := by unfold src; infer_instance

omit [FloatOps F] in
/-- The staged result is its two bands. -/
theorem split_bands (c : Dev nD) (f : (cc0_stg1_0 : Ref sig .tc).ty.Contents (Elt F)) :
    ((((c : Thread nD τ).loc cc0_stg1_0) ↦{fullShare} f : sProp 𝕄)) ⊣⊢ iprop(band c c f ∗ band (mate c) c f) := by
  unfold band
  rw [bandM_set, bandM_set, ← band_compl c]
  exact pointsTo_split_subset (ℓ := ((c : Thread nD τ).loc cc0_stg1_0)) (Finset.subset_univ _)

omit [FloatOps F] in
/-- The staged rows are two half shares of them. -/
theorem split_src (c : Dev nD) :
    ((((c : Thread nD τ).loc cc0_stg0_0) ↦{fullShare} rows m ρ c : sProp 𝕄))
      ⊣⊢ iprop(src m ρ c (fullShare : PosShare TreeShare).left ∗ src m ρ c (fullShare : PosShare TreeShare).right) := by
  unfold src; rw [View.set_whole]
  exact pointsTo_share (PosShare.mem_left_op_right _)

omit [FloatOps F] in
/-- A band counts only by its own elements. -/
theorem band_congr (b d : Dev nD) {f g : (cc0_stg1_0 : Ref sig .tc).ty.Contents (Elt F)} (h : ∀ i ∈ (bandM b).view.set, f i = g i) :
    (band b d f : sProp 𝕄) = band b d g := by unfold band; exact pointsTo_congr h

/-! ## The schedule -/

/-- What completing semaphore `k` of device `c` hands its owner. Barrier: the partner's copy of `c`'s band, at any
    contents, and that the partner's receive semaphore is at its first round. Send: the half share of the rows the copy
    was reading. Receive: `c`'s copy of the partner's band, gathered. -/
def pay (k : Fin 3) (c : Dev nD) : sProp 𝕄 := match k with
  | 0 => iprop((∃ f, band c (mate c) f) ∗ reached swapE (cell (mate c) 2) 0)
  | 1 => src m ρ c (fullShare : PosShare TreeShare).left
  | 2 => band (mate c) c (whole m ρ c)

omit [FloatOps F] in
/-- and so may what a duty pays. -/
instance pay_storable (k : Fin 3) (c : Dev nD) : BI.Storable (upEmb : UEmb _ 𝕄) (pay (F := F) m ρ k c) := by
  fin_cases k
  · show BI.Storable _ iprop((∃ f, band c (mate c) f) ∗ reached swapE (cell (mate c) 2) 0); infer_instance
  · show BI.Storable _ (src m ρ c _); infer_instance
  · show BI.Storable _ (band (mate c) c _); infer_instance

/-- The units that complete semaphore `k`: one signal, or one copy. -/
def units (k : Fin 3) : ℕ := if k = 0 then 1 else credit

/-- The barrier is raised by one, -/
theorem units_barrier : units 0 = 1 := if_pos rfl
/-- the send semaphore by a band's bytes, -/
theorem units_send : units 1 = credit := if_neg (by decide)
/-- and the receive semaphore likewise. -/
theorem units_recv : units 2 = credit := if_neg (by decide)

/-- One round of one duty at each of the three semaphores of each device. -/
def plan : Rounds.Schedule (GSem nD τ sig) Unit 𝕄 where
  duties g r := if r = 0 ∧ g.1.2 = .tc ∧ (kindOf g.2).isSome then {()} else ∅
  unitless _ := False
  amount g _ _ := units ((kindOf g.2).getD 0)
  payload g _ _ := pay m ρ ((kindOf g.2).getD 0) g.1.1
  amount_pos g _ _ _ := by unfold units; split; exacts [Nat.one_pos, credit_pos]

omit [FloatOps F] in
/-- Every payload of the plan may be stored in an invariant. -/
instance plan_storable (g : GSem nD τ sig) (r : ℕ) (d : Unit) :
    BI.Storable (upEmb : UEmb _ 𝕄) ((plan (F := F) m ρ).payload g r d) := pay_storable m ρ _ _

section Tables
variable (c : Dev nD) (k : Fin 3)

omit [FloatOps F] in
/-- Each semaphore of the exchange has one duty, in round 0: -/
theorem duties_cell : (plan (F := F) m ρ).duties (cell c k) 0 = {()} :=
  if_pos ⟨rfl, rfl, by rw [kindOf_csem]; rfl⟩
omit [FloatOps F] in
/-- that duty is one of them, -/
theorem duty_mem : () ∈ (plan (F := F) m ρ).duties (cell c k) 0 := by rw [duties_cell]; exact Finset.mem_singleton_self _
omit [FloatOps F] in
/-- and there is none in a later round. -/
theorem duties_over (g : GSem nD τ sig) (r : ℕ) (hr : 1 ≤ r) : (plan (F := F) m ρ).duties g r = ∅ :=
  if_neg fun h => absurd h.1 (by omega)
omit [FloatOps F] in
/-- It pays the units of its kind -/
theorem amount_cell : (plan (F := F) m ρ).amount (cell c k) 0 () = units k := by
  show units ((kindOf (csem k)).getD 0) = _; rw [kindOf_csem]; rfl
omit [FloatOps F] in
/-- and the payload of its kind, -/
theorem payload_cell : (plan (F := F) m ρ).payload (cell c k) 0 () = pay m ρ k c := by
  show pay m ρ ((kindOf (csem k)).getD 0) c = _; rw [kindOf_csem]; rfl
omit [FloatOps F] in
/-- so that the round expects those units. -/
theorem expect_cell : (plan (F := F) m ρ).expect (cell c k) 0 = units k := by
  unfold Schedule.expect Schedule.amountOf; rw [duties_cell, Finset.sum_singleton, amount_cell]
omit [FloatOps F] in
/-- What a wait for the whole round of semaphore `k` brings. -/
theorem wait_brings : bigSep ((plan (F := F) m ρ).duties (cell c k) 0 \ ∅) (fun d => (plan (F := F) m ρ).payload (cell c k) 0 d) = pay m ρ k c := by
  rw [Finset.sdiff_empty, duties_cell, bigSep_singleton, payload_cell]

end Tables

/-! ## What is owed, and in which order it may be waited for -/

/-- A device owes its partner the copy, -/
def owesCopy (c : Dev nD) : CellTallies nD τ sig Unit := tallyAt (cell (mate c) 2) () credit
/-- and, at launch, the signal besides. -/
def owesAll (c : Dev nD) : CellTallies nD τ sig Unit := owesCopy c + tallyAt (cell (mate c) 0) () 1

/-- Which semaphores are ranked: every device's. -/
def L (g : GSem nD τ sig) : Finset Unit := if g.1.2 = .tc then {()} else ∅
/-- Barrier semaphores below receive semaphores, every other one below both. -/
def lv (g : GSem nD τ sig) (_ : Unit) : ℕ := match kindOf g.2 with | some 0 => 1 | some 2 => 2 | _ => 0

/-- Nothing is owed off the main threads; -/
theorem L_off (g : GSem nD τ sig) (h : g.1.2 ≠ .tc) : L g = ∅ := if_neg h
/-- on a main thread every semaphore has its one level. -/
theorem L_on (c : Dev nD) (sm : SemLoc sig) : () ∈ L ((c : Thread nD τ), sm) := by
  unfold L; rw [if_pos rfl]; exact Finset.mem_singleton_self _

/-- The levels: the send semaphore lowest, then the barrier, then the receive semaphore. -/
theorem lv_cell (c : Dev nD) (k : Fin 3) : lv (cell c k) () = match k with | 0 => 1 | 1 => 0 | 2 => 2 := by
  unfold lv; rw [kindOf_csem]; fin_cases k <;> rfl

/-- Owing the copy is owing the partner's receive semaphore; -/
theorem owesCopy_pos {c : Dev nD} {g : GSem nD τ sig} {u : Unit} (h : 0 < owesCopy c g u) : g = cell (mate c) 2 := by
  unfold owesCopy at h; rw [tallyAt_apply] at h
  by_contra hn; rw [if_neg fun h' => hn h'.1] at h; exact absurd h (Nat.lt_irrefl 0)

/-- owing everything is owing that or the partner's barrier. -/
theorem owesAll_pos {c : Dev nD} {g : GSem nD τ sig} {u : Unit} (h : 0 < owesAll c g u) : g = cell (mate c) 2 ∨ g = cell (mate c) 0 := by
  unfold owesAll at h; rw [Pi.add_apply, Finsupp.add_apply] at h
  rcases Nat.eq_zero_or_pos (owesCopy c g u) with h0 | h0
  · rw [h0, Nat.zero_add, tallyAt_apply] at h
    by_contra hn; rw [if_neg fun h' => hn (.inr h'.1)] at h; exact absurd h (Nat.lt_irrefl 0)
  · exact .inl (owesCopy_pos h0)

omit [FloatOps F] in
/-- A semaphore ranked below everything a device owes may be waited for. -/
theorem may_wait (c : Dev nD) (sm : SemLoc sig) (n : ℕ) (O : CellTallies nD τ sig Unit)
    (hn : lv ((c : Thread nD τ), sm) () ≤ n) (hO : ∀ g u, 0 < O g u → (∃ k, g = cell (mate c) k) ∧ n < lv g ()) :
    (levAts L lv : sProp 𝕄) ⊢ MayWait (c : Thread nD τ) sm () O :=
  MayOwe.of_cut (L := L) (lev := lv) n (fun p hp => by rw [Finset.mem_singleton.mp hp]; exact L_on c sm)
    (fun g u hg => by obtain ⟨⟨k, rfl⟩, -⟩ := hO g u hg; exact L_on (mate c) (csem k))
    (fun p hp => by rw [Finset.mem_singleton.mp hp]; exact hn)
    (fun g u hg => (hO g u hg).2)

omit [FloatOps F] in
/-- The barrier may be waited for owing the copy. -/
theorem may_wait_barrier (c : Dev nD) : (levAts L lv : sProp 𝕄) ⊢ MayWait (c : Thread nD τ) (.reg barS) () (owesCopy c) :=
  may_wait c _ 1 _ (le_of_eq (lv_cell c 0)) fun g u hg => by
    rw [owesCopy_pos hg]; exact ⟨⟨2, rfl⟩, by rw [lv_cell]; decide⟩

omit [FloatOps F] in
/-- A semaphore that is none of the three may be waited for owing everything. -/
theorem may_wait_other (c : Dev nD) (sm : SemLoc sig) (h : kindOf sm = none) :
    (levAts L lv : sProp 𝕄) ⊢ MayWait (c : Thread nD τ) sm () (owesAll c) :=
  may_wait c sm 0 _ (by unfold lv; rw [h]) fun g u hg => by
    rcases owesAll_pos hg with rfl | rfl
    · exact ⟨⟨2, rfl⟩, by rw [lv_cell]; decide⟩
    · exact ⟨⟨0, rfl⟩, by rw [lv_cell]; decide⟩

end Cert.KernelIdeal.Swap

end
-- ==== Proof.KernelIdealBody.lean ====
/-
# The kernel's body on one device

From the ghost state of the exchange (`share`), its two credits and its two staging buffers, device `c`'s body runs to
its end with its staged rows as they were, its staged result gathered, and its three semaphores at zero.
-/
module

public import proofs.«01_k».proof.Proof.KernelIdealPlan
public import proofs.«01_k».proof.Proof.Gen.KernelIdeal.Points

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ Ghost ℕ

variable (m : (ℓ : Loc nD τ sig) → Buf (Elt F) ℓ) (ρ : Dev nD → PrngReg)

/-! ## What a device starts from -/

/-- Where semaphore `g`'s invariant is: the invariants are named by the semaphores. -/
abbrev kept (K : GSem nD τ sig → ℕ) (g : GSem nD τ sig) : sProp 𝕄 := cellInv swapE (plan m ρ) (K g) g

/-- What all devices know: every semaphore's invariant, and that each is at its first round. -/
def known (K : GSem nD τ sig → ℕ) : sProp 𝕄 :=
  iprop((bigSep Finset.univ fun ck : Dev nD × Fin 3 => kept m ρ K (cell ck.1 ck.2))
    ∗ bigSep Finset.univ fun ck : Dev nD × Fin 3 => reached swapE (cell ck.1 ck.2) 0)

/-- What is known stays known. -/
instance known_persistent (K : GSem nD τ sig → ℕ) : BI.Persistent (known (F := F) m ρ K) := by unfold known; infer_instance

omit [FloatOps F] in
/-- It gives each semaphore's invariant -/
theorem known_inv (K : GSem nD τ sig → ℕ) (c : Dev nD) (k : Fin 3) : known m ρ K ⊢ kept m ρ K (cell c k) :=
  sep_elim_left.trans (bigSep_elim (Φ := fun ck : Dev nD × Fin 3 => kept m ρ K (cell ck.1 ck.2)) (Finset.mem_univ (c, k)))

omit [FloatOps F] in
/-- and that its round 0 is reached. -/
theorem known_reached (K : GSem nD τ sig → ℕ) (c : Dev nD) (k : Fin 3) : known m ρ K ⊢ reached swapE (cell c k) 0 :=
  sep_elim_right.trans (bigSep_elim (Φ := fun ck : Dev nD × Fin 3 => (reached swapE (cell ck.1 ck.2) 0 : sProp 𝕄)) (Finset.mem_univ (c, k)))

/-- A device's own part: its places at its three semaphores, and the right to pay its partner's barrier, its own send
    semaphore and its partner's receive semaphore. -/
def own (c : Dev nD) : sProp 𝕄 :=
  iprop((atPos swapE (cell c 0) 0 ∅ 0 ∗ atPos swapE (cell c 1) 0 ∅ 0 ∗ atPos swapE (cell c 2) 0 ∅ 0)
    ∗ dutyTok swapE (cell (mate c) 0) 0 () ∗ dutyTok swapE (cell c 1) 0 () ∗ dutyTok swapE (cell (mate c) 2) 0 ())

/-- What a device's body starts from: what is known, its own part, the credits of the two semaphores its partner
    pays, and the ranks. -/
def begins (c : Dev nD) : sProp 𝕄 :=
  iprop((∃ K, known m ρ K ∗ own c) ∗ cred (tallyAt (cell c 0) () 1) ∗ cred (tallyAt (cell c 2) () credit) ∗ levAts L lv)

/-- What it ends with besides its staging buffers: its three semaphores at zero. -/
def ends (c : Dev nD) : sProp 𝕄 := iprop(semVal (cell c 0) 0 ∗ semVal (cell c 1) 0 ∗ semVal (cell c 2) 0)

/-- The launch's data: the arrays as they are at launch, the staged rows left alone, the staged result gathered. -/
def dats (_ : Fin 1) (c : Dev nD) : Dat τ (Elt F) Unit ℕ Ghost ℕ cfg0 c where
  A w := (s₀ m ρ).mem ((cfg0.win w).arr.view.loc (c : Thread nD τ))
  after w _ := match w with
    | ⟨0, _⟩ => rows m ρ c
    | ⟨1, _⟩ => whole m ρ c
  Φ t := match t with
    | ⟨0, _⟩ => begins m ρ c
    | ⟨_ + 1, _⟩ => ends c
  q _ := fullShare
  owed t := match t with
    | ⟨0, _⟩ => owesAll c
    | ⟨_ + 1, _⟩ => 0

/-- No loop of the body needs a variant. -/
abbrev 𝒱₀ : Variants := Variants.none

/-- A staging buffer of device `c` at contents `X`. -/
abbrev staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A staging buffer held whole is a points-to of its contents. -/
theorem staged_eq (c : Dev nD) (b : Ref sig .tc) (X : b.ty.Contents (Elt F)) :
    (owns (Ix := Unit) (Name := ℕ) (U := Ghost) (Lvl := ℕ) (c : Thread nD τ) (Memref.whole b) fullShare X : sProp 𝕄) = staged c b X := by
  unfold owns; simp only [Memref.view_whole, View.read_whole, View.set_whole]

/-! ## The copy -/

/-- The copy of device `c`'s rows to its partner: from half a share of the rows and the partner's copy of the band to
    the credit of the send semaphore, nothing owed. -/
theorem copy_step (K : GSem nD τ sig → ℕ) (c d : Dev nD) (hd : d = mate c)
    {hsc : (bandM c : Memref sig (Dev.tc d : Thread nD τ).2.kind .vmem S256x256 .f32).view.ref.isScScratch = false}
    {hsrc : (xM : Memref sig .tc .vmem S256x256 .f32).view.WordExact} {hdst : (bandM c).view.WordExact}
    {hsem : DmaTarget.Typed .vmem (.dma recvS.sem) (.remote (Dev.tc d : Thread nD τ) (bandM c) (.dma sendS.sem) hsc)}
    {α : Type} {Q : α → sProp 𝕄} {k : PUnit → Prog (TpuEff nD τ sig (Elt F) Λ₀ .tc) α}
    (f : (cc0_stg1_0 : Ref sig .tc).ty.Contents (Elt F)) (W : Waits sig Unit) :
    iprop(known m ρ K ∗ src m ρ c (fullShare : PosShare TreeShare).left ∗ band c (mate c) f ∗ owes (c : Thread nD τ) (owesCopy c) W
        ∗ dutyTok swapE (cell c 1) 0 () ∗ dutyTok swapE (cell (mate c) 2) 0 ())
      ⊢ iprop(((cred (tallyAt (cell c 1) () credit) ∗ owes (c : Thread nD τ) 0 W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma xM (.remote (Dev.tc d : Thread nD τ) (bandM c) (.dma sendS.sem) hsc) (.dma recvS.sem) hsrc hdst hsem) k) Q) := by
  subst hd
  have landed : ((bandM c).view.loc (mate c : Thread nD τ) ↦[(bandM c).view.set]{fullShare}
      ((bandM c).view.write (Elt F) f ((xM : Memref sig .tc .vmem S256x256 .f32).view.read (Elt F) (rows m ρ c)) Finset.univ) : sProp 𝕄)
      ⊢ (plan m ρ).payload (cell (mate c) 2) 0 () := by
    rw [payload_cell m ρ (mate c) 2]
    show _ ⊢ band (mate (mate c)) (mate c) (whole m ρ (mate c))
    rw [mate_mate, whole_mate]
    exact Entails.of_eq (band_congr c (mate c) (write_band m ρ c _ _ rfl f _ (View.read_whole _ _)))
  have step := Rounds.wp_send_pointsTo (Q := Q) (k := k) (hsc := hsc) (hsrc := hsrc) (hdst := hdst) (hsem := hsem) 𝒱₀ swapE (plan m ρ) (c : Thread nD τ) none
    (κ₁ := K (cell c 1)) (κ₂ := K (cell (mate c) 2)) (Es := Set.univ) (defs := defs₀ (F := F)) (Γ := PendingWaitsCtx.empty)
    (q := (fullShare : PosShare TreeShare).left) (fs := rows m ρ c) (fd := f)
    (r₁ := 0) (r₂ := 0) (d₁ := ()) (d₂ := ()) (duty_mem m ρ c 1) (duty_mem m ρ (mate c) 2) () () credit (band_amount c)
    ((amount_cell m ρ c 1).trans units_send) ((amount_cell m ρ (mate c) 2).trans units_recv) 0 (zero_add (owesCopy c)).symm (W := W)
    (Entails.of_eq (payload_cell m ρ c 1).symm) landed
  refine BIBase.Entails.trans ?_ step
  unfold src band
  iintro ⟨#HK, Hs, Hb, HO, Ht1, Ht2⟩
  isplitr; · iapply (known_inv m ρ K c 1); iexact HK
  isplitr; · iapply (known_inv m ρ K (mate c) 2); iexact HK
  isplitl [Hs]; · iexact Hs
  isplitl [Hb]; · iexact Hb
  isplitl [HO]; · iexact HO
  isplitl [Ht1]; · iexact Ht1
  isplitr; · iapply (known_reached m ρ K c 1); iexact HK
  isplitl [Ht2]; · iexact Ht2
  iapply (known_reached m ρ K (mate c) 2); iexact HK

/-! ## The body -/

omit [FloatOps F] in
/-- A load of the staged rows reads them. -/
theorem load_rows (c : Dev nD) :
    (xM : Memref sig .tc .vmem S256x256 .f32).view.readAt (Elt F)
      (Rect.unit (s := S256x256) ![0, 0] S256x256.size inb_S256x256_S256x256_0_0).toLoadRect (rows m ρ c) = rows m ρ c :=
  Memref.readAt_unit_zero (Elt F) cc0_stg0_0 (funext fun a => by fin_cases a <;> rfl) _ _

/-- The rows are stored as they were loaded. -/
theorem stored (v : Vec F S256x256 .f32) : k0_pay1 v = v := shapeCast_self v _

/-- What the body is given on device `c`. -/
def given (c : Dev nD) : sProp 𝕄 :=
  iprop(begins m ρ c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))

/-- What it returns. -/
def returned (c : Dev nD) : sProp 𝕄 :=
  iprop(ends c ∗ (dats m ρ 0 c).owesAt () t0_0.succ ∗ staged c cc0_stg0_0 (rows m ρ c) ∗ staged c cc0_stg1_0 (whole m ρ c))

set_option maxHeartbeats 1000000 in
/-- Device `c`'s body runs from what it is given to what it returns. -/
theorem body_runs (c : Dev nD) :
    given m ρ c ⊢ wp frame (wpE (defs₀ (F := F)) 𝒱₀ c none) Set.univ
      (cc0_body (Memref.whole cc0_stg0_0) (Memref.isWhole_whole _) (Memref.whole cc0_stg1_0) (Memref.isWhole_whole _)
        cc0_scratch0 cc0_scratch1) (fun _ => returned m ρ c) := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold given begins own
  iintro ⟨⟨⟨%K, #HK, ⟨HaB, HaS, HaR⟩, HtB, HtS, HtR⟩, HcB, HcR, #Hlev⟩, Ho, ⟨%d0, %g0, %hg0, Hx⟩, ⟨%d1, %g1, %hg1, Hout⟩⟩
  have hx : g0 = rows m ρ c := by rw [hg0]; unfold Dat.before; rw [if_pos (by decide)]; rfl
  subst hx
  unfold Dat.owesAt Pipeline.owesWithin
  icases Ho with ⟨%W, %hW, HO⟩
  rw [show (dats m ρ 0 c).owed t0_0.castSucc = owesAll c from rfl]
  simp only [signal_to c]
  -- the result in its two bands, the rows in two half shares
  ihave Hb := (split_bands c g1).1 $$ Hout
  icases Hb with ⟨Hmine, Hother⟩
  ihave Hx := (split_src m ρ c).1 $$ Hx
  icases Hx with ⟨Hxl, Hxr⟩
  -- the signal hands the partner the band it will fill
  iapply (Rounds.wp_signal 𝒱₀ swapE (plan m ρ) (c : Thread nD τ) none (dst := (mate c : Thread nD τ)) (κ := K (cell (mate c) 0))
      (d := ()) (duty_mem m ρ (mate c) 0) ((amount_cell m ρ (mate c) 0).trans (units_barrier.trans (by decide))) () (owesCopy c) rfl)
    $$ [HO HtB Hother]
  · isplitr; · iapply (known_inv m ρ K (mate c) 0); iexact HK
    isplitl [HO]; · iexact HO
    isplitl [HtB]; · iexact HtB
    isplitl [Hother]
    · iapply (Entails.of_eq (payload_cell m ρ (mate c) 0).symm)
      unfold pay
      rw [mate_mate]
      isplitl [Hother]; · iexists g1; iexact Hother
      iapply (known_reached m ρ K c 2); iexact HK
    · iapply (known_reached m ρ K (mate c) 0); iexact HK
  iintro HO
  -- the wait for the partner's signal
  iapply (Rounds.wp_wait_rest_token 𝒱₀ swapE (plan m ρ) (c : Thread nD τ) none (κ := K (cell c 0))
      (wpE_semWait_eq 𝒱₀ (c : Thread nD τ) none Set.univ) (Set.mem_univ _) () (O := owesCopy c) (W := W) (R := 0) (m := 0) (T := ∅)
      ((show _ = 1 by decide).trans ((expect_cell m ρ c 0).trans units_barrier).symm)) $$ [HcB HO HaB]
  · isplitr; · iapply (known_inv m ρ K c 0); iexact HK
    isplitl [HcB]; · iexact HcB
    isplitl [HO]; · iexact HO
    isplitr; · iapply (may_wait_barrier c); iexact Hlev
    iexact HaB
  iintro ⟨HO, HaB, -, Hp⟩
  ihave Hp := (Entails.of_eq (wait_brings m ρ c 0)) $$ Hp
  unfold pay
  icases Hp with ⟨⟨%f, Hland⟩, -⟩
  -- the copy
  iapply (copy_step m ρ K c _ (copy_to c) f _) $$ [Hxl Hland HO HtS HtR]
  · isplitr; · iexact HK
    isplitl [Hxl]; · iexact Hxl
    isplitl [Hland]; · iexact Hland
    isplitl [HO]; · iexact HO
    isplitl [HtS] <;> iassumption
  iintro ⟨HcS, HO⟩
  -- the device's own rows into its own band, on the other half share
  unfold src
  iapply (wp_load 𝒱₀ (c : Thread nD τ) none Set.univ (m := xM) (by rw [View.set_whole]; exact Finset.subset_univ _)) $$ Hxr; iintro Hxr
  rw [load_rows, stored]
  have hoff : k0_off2 c = k0_off1 c := (k0_off2_eq c).trans (k0_off1_eq c).symm
  have hsub : ((oM : Memref sig .tc .vmem S512x256 .f32).access
      (Rect.unit (s := S512x256) (k0_off2 c) S256x256.size (k0_off2_inb c))).set ⊆ (bandM c).view.set := by
    intro i hi
    simp only [hoff] at hi
    exact hi
  have hst : (((oM : Memref sig .tc .vmem S512x256 .f32).access
        (Rect.unit (s := S512x256) (k0_off2 c) S256x256.size (k0_off2_inb c))).loc (c : Thread nD τ) ↦[(bandM c).view.set]{fullShare}
        (((oM : Memref sig .tc .vmem S512x256 .f32).access (Rect.unit (s := S512x256) (k0_off2 c) S256x256.size (k0_off2_inb c))).write (Elt F) g1
          (rows m ρ c) Finset.univ) : sProp 𝕄) = band c c (whole m ρ c) :=
    band_congr c c (write_band m ρ c _ (k0_off2_inb c) hoff g1 _ rfl)
  unfold band at hst ⊢
  iapply (wp_load_rect 𝒱₀ (c : Thread nD τ) none Set.univ (m := oM) hsub) $$ Hmine; iintro Hmine
  iapply (wp_store 𝒱₀ (c : Thread nD τ) none Set.univ (m := oM) (Mk := Finset.univ) hsub) $$ Hmine; iintro Hmine
  ihave Hmine := (Entails.of_eq hst) $$ Hmine
  -- the wait for the outgoing copy
  iapply (Rounds.wp_wait_rest_token 𝒱₀ swapE (plan m ρ) (c : Thread nD τ) none (κ := K (cell c 1))
      (wpE_waitDma2_eq 𝒱₀ (c : Thread nD τ) none Set.univ) (Set.mem_univ _) () (O := 0) (R := 0) (m := 0) (T := ∅)
      ((Nat.zero_add _).trans ((expect_cell m ρ c 1).trans units_send).symm)) $$ [HcS HO HaS]
  · isplitr; · iapply (known_inv m ρ K c 1); iexact HK
    isplitl [HcS]; · iexact HcS
    isplitl [HO]; · iexact HO
    isplitr; · rw [MayWait_zero]; iempintro
    iexact HaS
  iintro ⟨HO, HaS, -, Hp⟩
  ihave Hxl := (Entails.of_eq (wait_brings m ρ c 1)) $$ Hp
  -- the wait for the incoming copy
  iapply (Rounds.wp_wait_rest_token 𝒱₀ swapE (plan m ρ) (c : Thread nD τ) none (κ := K (cell c 2))
      (wpE_waitDma2_eq (dst := bandM c) 𝒱₀ (c : Thread nD τ) none Set.univ) (Set.mem_univ _) () (O := 0) (R := 0) (m := 0) (T := ∅)
      ((Nat.zero_add _).trans ((band_credit c).trans ((expect_cell m ρ c 2).trans units_recv).symm))) $$ [HcR HO HaR]
  · isplitr; · iapply (known_inv m ρ K c 2); iexact HK
    isplitl [HcR]; · iexact HcR
    isplitl [HO]; · iexact HO
    isplitr; · rw [MayWait_zero]; iempintro
    iexact HaR
  iintro ⟨HO, HaR, -, Hp⟩
  ihave Hother := (Entails.of_eq (wait_brings m ρ c 2)) $$ Hp
  unfold pay
  -- the three semaphores are done with
  imod (Rounds.cell_close swapE (plan m ρ) (Set.mem_univ (K (cell c 0))) (fun h => h) (R := 0 + 1) (duties_over m ρ (cell c 0))) $$ [HaB] with HzB
  · isplitr; · iapply (known_inv m ρ K c 0); iexact HK
    iexact HaB
  imod (Rounds.cell_close swapE (plan m ρ) (Set.mem_univ (K (cell c 1))) (fun h => h) (R := 0 + 1) (duties_over m ρ (cell c 1))) $$ [HaS] with HzS
  · isplitr; · iapply (known_inv m ρ K c 1); iexact HK
    iexact HaS
  imod (Rounds.cell_close swapE (plan m ρ) (Set.mem_univ (K (cell c 2))) (fun h => h) (R := 0 + 1) (duties_over m ρ (cell c 2))) $$ [HaR] with HzR
  · isplitr; · iapply (known_inv m ρ K c 2); iexact HK
    iexact HaR
  rw [wp_ret]; imodintro
  unfold returned ends Dat.owesAt Pipeline.owesWithin
  rw [show (dats m ρ 0 c).owed t0_0.succ = 0 from rfl]
  isplitl [HzB HzS HzR]
  · isplitl [HzB]; · iexact HzB
    isplitl [HzS] <;> iassumption
  isplitl [HO]
  · iexists _
    isplitr [HO]; rotate_left; · iexact HO
    ipureintro; exact fun _ _ => Or.inl trivial
  isplitl [Hxl Hxr]
  · iexists _; isplitr; · (ipureintro; rfl)
    iapply (split_src m ρ c).2
    unfold src
    isplitl [Hxl] <;> iassumption
  iexists _; isplitr; · (ipureintro; rfl)
  iapply (split_bands c (whole m ρ c)).2
  unfold band
  isplitl [Hmine] <;> iassumption

/-- The launch's obligation for the body. -/
theorem body_meets (c : Dev nD) : BodyObligation (dats (F := F) m ρ 0 c) (defs₀ (F := F)) 𝒱₀ () Set.univ := fun t => by
  obtain rfl := fin_N0 t
  rw [bigSep_W0, bigSep_W0]
  simp only [staged_eq]
  exact body_runs m ρ c

end Cert.KernelIdeal.Swap

end
-- ==== Proof.KernelIdealRun.lean ====
/-
# The run on the sixteen devices

The ghost state of the exchange is made at launch, dealt between partners, and every device's body run from it
(Proof/KernelIdealBody.lean). `runs`: every run ends with each device's argument as it was, its result gathered and every
semaphore counter at zero.
-/
module

public import proofs.«01_k».proof.Proof.KernelIdealBody
public import Idealize.ShloMosaic.Lib.Pipeline.CollectiveSegs

@[expose] public section

noncomputable section

namespace Cert.KernelIdeal.Swap

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ Ghost ℕ

variable (m : (ℓ : Loc nD τ sig) → Buf (Elt F) ℓ) (ρ : Dev nD → PrngReg)

/-! ## The ghost state at launch -/

/-- The exchange's semaphores on all devices, -/
def cells : Finset (GSem nD τ sig) :=
  Finset.univ.map ⟨fun ck : Dev nD × Fin 3 => cell ck.1 ck.2, fun _ _ h => Prod.ext (cell_inj h).1 (cell_inj h).2⟩
/-- and their one duty each. -/
def tokens : Finset (GSem nD τ sig × ℕ × Unit) := cells.map ⟨fun g => (g, 0, ()), fun _ _ h => congrArg Prod.fst h⟩

/-- What the launch starts from. -/
def u₀ : Ghost := (initOf (Pipeline.cells cfgs cellOf_inj) (Pipeline.launchToks cfgs cellOf_inj), initOf cells tokens)

omit [FloatOps F] in
/-- An assertion of every semaphore of the exchange, device by device. -/
theorem over_cells (Φ : GSem nD τ sig → sProp 𝕄) :
    bigSep cells Φ = bigSep Finset.univ fun c : Dev nD => bigSep Finset.univ fun k : Fin 3 => Φ (cell c k) := by
  unfold cells; rw [bigSep_map, bigSep_univ_prod]; rfl

omit [FloatOps F] in
/-- The duties of all semaphores, device by device. -/
theorem over_tokens : bigSep tokens (fun x => (dutyTok swapE x.1 x.2.1 x.2.2 : sProp 𝕄))
    = bigSep Finset.univ fun c : Dev nD => bigSep Finset.univ fun k : Fin 3 => dutyTok swapE (cell c k) 0 () := by
  unfold tokens; rw [bigSep_map]; exact over_cells fun g => dutyTok swapE g 0 ()

omit [FloatOps F] in
/-- An assertion of a device's three semaphores, written out. -/
theorem three (Φ : Fin 3 → sProp 𝕄) : bigSep Finset.univ Φ = iprop(Φ 0 ∗ Φ 1 ∗ Φ 2) :=
  bigSep_univ_eq_bigSepL [0, 1, 2] (by decide) (by decide) Φ

/-- What device `c` is dealt of it, semaphore by semaphore. -/
def dealt (c : Dev nD) : sProp 𝕄 :=
  iprop((bigSep Finset.univ fun k : Fin 3 => roundState swapE (plan m ρ) (cell c k) 0)
    ∗ (bigSep Finset.univ fun k : Fin 3 => reached swapE (cell c k) 0)
    ∗ (bigSep Finset.univ fun k : Fin 3 => atPos swapE (cell c k) 0 ∅ 0)
    ∗ bigSep Finset.univ fun k : Fin 3 => dutyTok swapE (cell c k) 0 ())

omit [FloatOps F] in
/-- The launch's ghost state, dealt to the devices. -/
theorem deal : BI.own (swapE (initOf cells tokens)) ⊢ (|==> bigSep Finset.univ (dealt m ρ) : sProp 𝕄) := by
  iintro H
  imod (Rounds.fund swapE (plan m ρ) cells tokens) $$ H with ⟨Hs, Hr, Ha, Ht⟩
  imodintro
  ihave Hs := (Entails.of_eq (over_cells fun g => roundState swapE (plan m ρ) g 0)) $$ Hs
  ihave Hr := (Entails.of_eq (over_cells fun g => reached swapE g 0)) $$ Hr
  ihave Ha := (Entails.of_eq (over_cells fun g => atPos swapE g 0 ∅ 0)) $$ Ha
  ihave Ht := (Entails.of_eq (over_tokens (F := F))) $$ Ht
  unfold dealt
  simp only [bigSep_sep']
  isplitl [Hs]; · iexact Hs
  isplitl [Hr]; · iexact Hr
  isplitl [Ha] <;> iassumption

omit [FloatOps F] in
/-- A device's own counters at zero are its send and receive semaphores', -/
theorem own_sems (c : Dev nD) :
    (Pipeline.ownSems0 (Ix := Unit) (Name := ℕ) (U := Ghost) (Lvl := ℕ) (Val := Elt F) (τ := τ) osem c : sProp 𝕄)
      = iprop(semVal (cell c 1) 0 ∗ semVal (cell c 2) 0) := by
  rw [Pipeline.ownSems0_eq_of_list c osem [0, 1] (by decide) (by decide)]; rfl

omit [FloatOps F] in
/-- and its unscoped one is its barrier's. -/
theorem barrier_sem (c : Dev nD) : (unscopedSems0 c : sProp 𝕄) = semVal (cell c 0) 0 := by
  unfold unscopedSems0; rw [bigSep_eq_bigSepL_of_eq [SemLoc.reg barS] (by decide) (by decide)]; rfl

/-- A device's part with the semaphores' names chosen. -/
def ready (c : Dev nD) : sProp 𝕄 := iprop(∃ K, known m ρ K ∗ own c)

omit [FloatOps F] in
/-- Partners exchange the duties they pay each other: the barrier's and the receive semaphore's. -/
theorem exchange :
    iprop((bigSep Finset.univ fun c : Dev nD => bigSep Finset.univ fun k : Fin 3 => atPos swapE (cell c k) 0 ∅ 0)
        ∗ bigSep Finset.univ fun c : Dev nD => bigSep Finset.univ fun k : Fin 3 => dutyTok swapE (cell c k) 0 ())
      ⊢ (bigSep Finset.univ fun c : Dev nD => own c : sProp 𝕄) := by
  unfold own
  simp only [three, bigSep_sep']
  rw [bigSep_univ_equiv mates (fun c : Dev nD => (dutyTok swapE (cell c 0) 0 () : sProp 𝕄)),
    bigSep_univ_equiv mates (fun c : Dev nD => (dutyTok swapE (cell c 2) 0 () : sProp 𝕄))]
  exact BIBase.Entails.refl

omit [FloatOps F] in
/-- What is known is known to every device. -/
theorem to_all (K : GSem nD τ sig → ℕ) :
    iprop(known m ρ K ∗ bigSep Finset.univ fun c : Dev nD => own c) ⊢ (bigSep Finset.univ (ready m ρ) : sProp 𝕄) := by
  have one (c : Dev nD) : iprop(known m ρ K ∗ own c) ⊢ (ready m ρ c : sProp 𝕄) := by
    unfold ready
    iintro H
    iexists K; iexact H
  refine BIBase.Entails.trans (sep_mono_left (BI.bigSep_of_persistent (Finset.univ : Finset (Dev nD)) (known m ρ K))) ?_
  rw [← bigSep_sep']
  exact bigSep_mono fun c _ => one c

omit [FloatOps F] in
/-- The launch's global step: from every device's counters at zero and what it was dealt, all invariants at once. -/
theorem set_up :
    (bigSep Finset.univ fun c => iprop(Pipeline.ownSems0 (Ix := Unit) (Name := ℕ) (U := Ghost) (Lvl := ℕ) (Val := Elt F) (τ := τ) osem c
        ∗ unscopedSems0 c ∗ dealt m ρ c) : sProp 𝕄)
      ⊢ |={Set.univ}=> bigSep Finset.univ (ready m ρ) := by
  have sems (c : Dev nD) : iprop(Pipeline.ownSems0 (Ix := Unit) (Name := ℕ) (U := Ghost) (Lvl := ℕ) (Val := Elt F) (τ := τ) osem c
        ∗ unscopedSems0 c ∗ dealt m ρ c)
      ⊢ (iprop((bigSep Finset.univ fun k : Fin 3 => semVal (cell c k) 0) ∗ dealt m ρ c) : sProp 𝕄) := by
    rw [own_sems, barrier_sem, three (F := F) fun k => semVal (cell c k) 0]
    iintro ⟨⟨H1, H2⟩, H0, Hd⟩
    isplitr [Hd]
    · isplitl [H0]; · iexact H0
      isplitl [H1] <;> iassumption
    iexact Hd
  refine BIBase.Entails.trans (bigSep_mono fun c _ => sems c) ?_
  unfold dealt
  simp only [bigSep_sep']
  rw [← over_cells (F := F) fun g => semVal g 0, ← over_cells fun g => roundState swapE (plan m ρ) g 0, ← over_cells (F := F) fun g => reached swapE g 0]
  iintro ⟨Hv, Hs, Hr, Ha, Ht⟩
  ihave Hb := (Rounds.bodies_intro swapE (plan m ρ) cells) $$ [Hv Hs]
  · isplitl [Hv] <;> iassumption
  imod (inv_alloc_family cells (Rounds.body swapE (plan m ρ)) ∅) $$ Hb with ⟨%K, -, Hi⟩
  imodintro
  iapply (to_all m ρ K)
  isplitl [Hi Hr]
  · unfold known
    isplitl [Hi]
    · iapply (Entails.of_eq (show bigSep cells (kept m ρ K) = _ by unfold cells; rw [bigSep_map]; rfl)); iexact Hi
    · iapply (Entails.of_eq (show bigSep cells (fun g => (reached swapE g 0 : sProp 𝕄)) = _ by unfold cells; rw [bigSep_map]; rfl)); iexact Hr
  iapply (exchange (F := F))
  isplitl [Ha] <;> iassumption

/-! ## The credits at launch -/

/-- A device's barrier and receive semaphores are owed by its partner only. -/
theorem owed_at (d c : Dev nD) (k : Fin 3) (hk : k ≠ 1) : owesAll d (cell c k) () = if d = mate c then units k else 0 := by
  unfold owesAll owesCopy
  rw [Pi.add_apply, Finsupp.add_apply, tallyAt_apply, tallyAt_apply]
  by_cases h : d = mate c
  · subst h
    rw [mate_mate, if_pos rfl]
    fin_cases k
    · exact (congrArg₂ (· + ·) (if_neg fun h => absurd (cell_inj h.1).2 (by decide)) (if_pos ⟨rfl, rfl⟩)).trans ((Nat.zero_add _).trans units_barrier.symm)
    · exact absurd rfl hk
    · exact (congrArg₂ (· + ·) (if_pos ⟨rfl, rfl⟩) (if_neg fun h => absurd (cell_inj h.1).2 (by decide))).trans ((Nat.add_zero _).trans units_recv.symm)
  · have hn (j : Fin 3) : ¬ (cell c k = cell (mate d) j ∧ () = ()) := fun e => h (by rw [(cell_inj e.1).1, mate_mate])
    rw [if_neg (hn 2), if_neg (hn 0), if_neg h]

omit [FloatOps F] in
/-- So the launch credits each with its units, -/
theorem credit_at (c : Dev nD) (k : Fin 3) (hk : k ≠ 1) :
    tallyOn (cell c k) (launchCredit (Pipeline.owing owesAll) 0 (cell c k)) = (tallyAt (cell c k) () (units k) : CellTallies nD τ sig Unit) := by
  unfold tallyAt
  refine congrArg _ (Finsupp.ext fun u => ?_)
  rw [Pipeline.launchCredit_owing, Finsupp.single_eq_same, Finset.sum_congr rfl fun d _ => owed_at d c k hk,
    Finset.sum_ite_eq' Finset.univ (mate c) fun _ => units k, if_pos (Finset.mem_univ _)]

omit [FloatOps F] in
/-- and a device begins with the credit of its two. -/
theorem credits (c : Dev nD) :
    (Pipeline.launchCred owesAll c : sProp 𝕄) ⊢ iprop(cred (tallyAt (cell c 0) () 1) ∗ cred (tallyAt (cell c 2) () credit)) := by
  have e0 := credit_at c 0 (by decide)
  have e2 := credit_at c 2 (by decide)
  rw [units_barrier] at e0
  rw [units_recv] at e2
  unfold Pipeline.launchCred
  rw [← e0, ← e2, bigSep_univ_at _ (csem 0)]
  exact sep_mono_right (bigSep_elim (Finset.mem_erase.mpr ⟨fun h => absurd (csem_inj (k := 2) (k' := 0) h) (by decide), Finset.mem_univ _⟩))

/-! ## The launch -/

omit [FloatOps F] in
/-- What the launch leaves a device is what its body begins with; -/
theorem to_begin (c : Dev nD) :
    iprop(Pipeline.unscopedRestP Pipeline.Prefetch.none cfg0.spec c (fun b => m ((c : Thread nD τ).loc b)) ∗ levAts L lv
        ∗ Pipeline.launchCred owesAll c ∗ prngReg c (ρ c) ∗ ready m ρ c)
      ⊢ |={Set.univ}=> iprop(begins m ρ c ∗ emp) := by
  iintro ⟨-, Hl, Hc, -, Hg⟩
  ihave Hc := (credits (F := F) c) $$ Hc
  icases Hc with ⟨H0, H2⟩
  imodintro
  unfold begins ready
  isplitl
  · isplitl [Hg]; · iexact Hg
    isplitl [H0]; · iexact H0
    isplitl [H2] <;> iassumption
  · iempintro

/-- that is what the launch enters the body with, -/
theorem to_enter (c : Dev nD) :
    iprop(begins m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = begins m ρ c from rfl]
  iintro ⟨H, -, -⟩
  iexact H

/-- and what the body ends with is every counter at zero. -/
theorem to_leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ends c from rfl, scopedRest0_eq, own_sems, barrier_sem]
  unfold ends
  iintro ⟨H0, H1, H2⟩
  isplitl [H0]; · iexact H0
  isplitl [H1 H2]
  · isplitl [H1] <;> iassumption
  iempintro

/-- The staging semaphores may be waited for at launch, owing everything, and after the body, owing nothing. -/
theorem staging_waits (c : Dev nD) : (levAts L lv : sProp 𝕄) ⊢ Pipeline.cellsWaits cfgs (dats m ρ) () 0 c :=
  Pipeline.cellsWaits_intro cfgs (dats m ρ) () 0 c fun w s t => by
    rcases t with ⟨_ | n, ht⟩
    · exact may_wait_other c _ (by fin_cases w <;> fin_cases s <;> decide)
    · show _ ⊢ MayWait _ _ _ 0
      rw [MayWait_zero]; iintro -; iempintro

/-- Array `w` of the launch on device `c` after the run. -/
def final (c : Dev nD) (w : Fin cfg0.W) : Buf (Elt F) ((cfg0.win w).arr.view.loc (c : Thread nD τ)) := (dats m ρ 0 c).arrAt w cfg0.N

set_option maxRecDepth 8000 in
/-- Every run ends, with each device's two arrays at their final contents and every counter at zero. -/
theorem launched : θ_run defs (onTc (τ := τ) (main (F := F))) (s₀ m ρ) (fun r =>
    (∀ (c : Dev nD) (w : Fin cfg0.W), r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ (show Pipeline.OwnSemFacts cfg0.spec osem by decide) (Pipeline.PreFacts.none _) pipeE defs₀ 𝒱₀ m ρ main
    (hmain := fun _ => rfl) (hbody := body_meets m ρ) (hne := block_pos0) (harr := arr_whole0) (hstage := stage_whole0)
    (hshare := fun c w => by unfold Pipeline.Dat.share; split <;> rfl) (hdistinct := winFacts0.arr_inj)
    (O₀ := owesAll) (howed₀ := fun _ => rfl) (howedN := fun _ => rfl) (L := L) (lv := lv) (hL := L_off) (hwaits := staging_waits m ρ)
    (G := dealt m ρ) (G' := ready m ρ) (u₀ := u₀)
    (hu₀ := by
      unfold u₀
      iintro H
      ihave H := (ownU_pair _ _) $$ H
      icases H with ⟨Hp, Hs⟩
      imod (deal m ρ) $$ Hs with Hd
      imodintro
      isplitl [Hp] <;> iassumption)
    (hglob := set_up m ρ) (hA := fun _ _ => rfl) (hpf := fun _ k => k.elim0)
    (X := begins m ρ) (Y := fun c => unscopedSems0 c) (Z := fun _ => iprop(emp))
    (hX := to_begin m ρ) (hin := to_enter m ρ) (hout := to_leave m ρ)
    (QY := fun c s => ∀ sm : SemLoc sig, sm.isScoped .tc = false → s.sem ((c.tc : Thread nD τ), sm) = 0)
    (hY := fun c s' => by
      iintro ⟨Hu, -, HS⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The argument is only read. -/
theorem final_arg (c : Dev nD) : final m ρ c (0 : Fin 2) = m ((c : Thread nD τ).loc main_arg0) :=
  (dats (F := F) m ρ 0 c).arrAt_in (0 : Fin 2) rfl _

/-- A device's rows, staged, are its argument. -/
theorem rows_eq (c : Dev nD) : rows m ρ c = m ((c : Thread nD τ).loc main_arg0) :=
  Memref.read_access_unit_zero (Elt F) main_arg0 (funext fun a => by fin_cases a <;> decide) (fun a => by fin_cases a <;> decide) _

/-- The result is what the body left in its staging buffer: the gathered array. -/
theorem final_res (c : Dev nD) : final m ρ c (1 : Fin 2) = gathered (fun d : Dev nD => (m ((d : Thread nD τ).loc main_arg0) : S256x256.Idx → Elt F .f32)) c := by
  have h : (win0_1.blk (0 : Fin 1)).view.read (Elt F) (final m ρ c (1 : Fin 2)) = whole m ρ c := by
    unfold final
    rw [show cfg0.N = ((0 : Fin 1) : Fin cfg0.N).val + 1 from rfl, (dats m ρ 0 c).arrAt_succ (1 : Fin 2) (0 : Fin 1),
      show (cfg0.win 1).flush (0 : Fin 1) = true from by decide, if_pos rfl]
    exact View.read_write_univ _ _
  have e : (win0_1.blk (0 : Fin 1)).view.read (Elt F) (final m ρ c (1 : Fin 2)) = final m ρ c (1 : Fin 2) :=
    Memref.read_access_unit_zero (Elt F) main_v1 (funext fun a => by fin_cases a <;> decide) (fun a => by fin_cases a <;> decide) _
  exact (e.symm.trans h).trans (congrArg (fun X => gathered X c) (funext fun d => rows_eq m ρ d))

/-- Every run of the program ends, with each device's result the array its pair gathers, its argument as it was, and
    every semaphore counter at zero. -/
theorem runs : θ_run defs (onTc (τ := τ) (main (F := F))) ⟨m, fun _ => 0, ρ⟩ (fun r =>
    (∀ c : Dev nD, r.2.mem ((c : Thread nD τ).loc main_v1)
          = gathered (fun d : Dev nD => (m ((d : Thread nD τ).loc main_arg0) : S256x256.Idx → Elt F .f32)) c
        ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (final_res m ρ c), (h.1 c (0 : Fin 2)).trans (final_arg m ρ c)⟩, h.2⟩)
    (launched m ρ)

/-! ## Against the array laid out over the mesh -/

/-- If each device's argument is its block of rows of one array, what a pair gathers is that array. -/
theorem gathered_blocks {α : Type} (A : S512x256.Idx → α) (c : Dev nD) :
    gathered (fun d : Dev nD => Layout.blockN ⟨2, ![256, 256]⟩ ⟨2, ![512, 256]⟩ (Layout.meshBlock [2, 2, 4] ![[0], []] d) A) c = A := by
  funext i
  have h0 : (i 0).val < 512 := (i 0).isLt
  refine congrArg A (funext fun a => Fin.ext ?_)
  fin_cases a
  · show ((8 * ((i 0).val / 256 % 2) + c.val % 8) / 8 % 2 * 1 + 0) * 256 + (i 0).val % 256 = (i 0).val
    omega
  · show 0 * 256 + (i 1).val = (i 1).val
    omega

end Cert.KernelIdeal.Swap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.KernelIdealRun
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The kernel runs, leaves its argument as it was and ends with every semaphore counter at zero. -/
theorem kernel_frame : Cert.quiescent_Kernel := fun m g _ =>
  (θ_run Cert.Kernel.defs _ _).mono (fun _ h => ⟨fun c => (h.1 c).2, h.2⟩) (Cert.Kernel.Swap.runs (F := Bits) m g)

/-- So does the kernel over the extended reals. -/
theorem kernelIdeal_frame : Cert.quiescent_KernelIdeal := fun m g _ =>
  (θ_run Cert.KernelIdeal.defs _ _).mono (fun _ h => ⟨fun c => (h.1 c).2, h.2⟩) (Cert.KernelIdeal.Swap.runs (F := Ideal) m g)

/-- The reference returns its argument and changes nothing. -/
theorem reference_runs (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      ∀ c : Dev Cert.ReferenceIdeal.nD, r.2.mem ((c : Thread Cert.ReferenceIdeal.nD Cert.ReferenceIdeal.τ).loc Cert.ReferenceIdeal.main_arg0)
        = m ((c : Thread Cert.ReferenceIdeal.nD Cert.ReferenceIdeal.τ).loc Cert.ReferenceIdeal.main_arg0)) := by
  hlo_run

/-- The reference's frame: it has no semaphores. -/
theorem reference_frame : Cert.quiescent_ReferenceIdeal := fun m g _ =>
  (θ_run Cert.ReferenceIdeal.defs _ _).mono (fun r h => ⟨h, sem_eq_zero_of_no_sems (by decide) r.2⟩) (reference_runs m g)

/-- Over the extended reals every device of the kernel ends with the reference's whole array: what its pair gathers of
    the blocks of rows. -/
theorem same_values : Cert.algebraic_KernelIdeal_ReferenceIdeal := by
  intro m g m' g' _ hblocks
  refine ⟨m' (((0 : Dev Cert.ReferenceIdeal.nD).tc : Thread _ Cert.ReferenceIdeal.τ).loc Cert.ReferenceIdeal.main_arg0), ?_, ?_⟩
  · refine (θ_run Cert.KernelIdeal.defs _ _).mono (fun _ h c => ⟨(h.1 c).1.trans ?_, (h.1 c).2⟩) (Cert.KernelIdeal.Swap.runs (F := Ideal) m g)
    exact (congrArg (fun X => Cert.KernelIdeal.Swap.gathered X c) (funext hblocks)).trans (Cert.KernelIdeal.Swap.gathered_blocks _ c)
  · exact (θ_run Cert.ReferenceIdeal.defs _ _).mono (fun _ h => ⟨h 0, h 0⟩) (reference_runs m' g')

/-- The five claims, after the programs' stated facts. -/
theorem claim : Cert.Claim :=
  ⟨Cert.Kernel.Gen.facts, Cert.KernelIdeal.Gen.facts, Cert.ReferenceIdeal.Gen.facts,
    kernel_frame, kernelIdeal_frame, reference_frame, trivial, same_values⟩

end Cert.Proof

end
